-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x37x37 : Shape := ⟨4, ![8, 1024, 37, 37]⟩
abbrev S512x1024x3x3 : Shape := ⟨4, ![512, 1024, 3, 3]⟩
abbrev S512 : Shape := ⟨1, ![512]⟩
abbrev S120x512x1x1 : Shape := ⟨4, ![120, 512, 1, 1]⟩
abbrev S120 : Shape := ⟨1, ![120]⟩
abbrev S_ : Shape := ⟨0, ![]⟩
abbrev S8x1024x41x40 : Shape := ⟨4, ![8, 1024, 41, 40]⟩
abbrev S8x1024x1640 : Shape := ⟨3, ![8, 1024, 1640]⟩
abbrev S3x3x512x1024 : Shape := ⟨4, ![3, 3, 512, 1024]⟩
abbrev S120x512 : Shape := ⟨2, ![120, 512]⟩
abbrev S512x120 : Shape := ⟨2, ![512, 120]⟩
abbrev S512x1 : Shape := ⟨2, ![512, 1]⟩
abbrev S1x120 : Shape := ⟨2, ![1, 120]⟩
abbrev S8x1369x120 : Shape := ⟨3, ![8, 1369, 120]⟩
abbrev S1x1024x1640 : Shape := ⟨3, ![1, 1024, 1640]⟩
abbrev S1x1369x120 : Shape := ⟨3, ![1, 1369, 120]⟩
abbrev S9x512x1024 : Shape := ⟨3, ![9, 512, 1024]⟩
abbrev S512x1536 : Shape := ⟨2, ![512, 1536]⟩
abbrev S1x512x1024 : Shape := ⟨3, ![1, 512, 1024]⟩
abbrev S512x1024 : Shape := ⟨2, ![512, 1024]⟩
abbrev S1x1024x1536 : Shape := ⟨3, ![1, 1024, 1536]⟩
abbrev S1024x1536 : Shape := ⟨2, ![1024, 1536]⟩
abbrev S1536x120 : Shape := ⟨2, ![1536, 120]⟩
abbrev S37x120 : Shape := ⟨2, ![37, 120]⟩
abbrev S1x37x120 : Shape := ⟨3, ![1, 37, 120]⟩
abbrev S8x37x37x20x6 : Shape := ⟨5, ![8, 37, 37, 20, 6]⟩

abbrev nBuf : Space → Nat
  | .hbm => 18
  | .vmem => 9
  | .smem => 0
  | _ => 0

abbrev bufTy : (tb : Table) → Fin (tcTables nBuf tb) → BufTy
  | .hbm, ⟨0, _⟩ => ⟨S8x1024x37x37, .f32⟩
  | .hbm, ⟨1, _⟩ => ⟨S512x1024x3x3, .f32⟩
  | .hbm, ⟨2, _⟩ => ⟨S512, .f32⟩
  | .hbm, ⟨3, _⟩ => ⟨S120x512x1x1, .f32⟩
  | .hbm, ⟨4, _⟩ => ⟨S120, .f32⟩
  | .hbm, ⟨5, _⟩ => ⟨S_, .i32⟩
  | .hbm, ⟨6, _⟩ => ⟨S_, .f32⟩
  | .hbm, ⟨7, _⟩ => ⟨S8x1024x41x40, .f32⟩
  | .hbm, ⟨8, _⟩ => ⟨S8x1024x1640, .f32⟩
  | .hbm, ⟨9, _⟩ => ⟨S8x1024x1640, .bf16⟩
  | .hbm, ⟨10, _⟩ => ⟨S3x3x512x1024, .f32⟩
  | .hbm, ⟨11, _⟩ => ⟨S120x512, .f32⟩
  | .hbm, ⟨12, _⟩ => ⟨S512x120, .f32⟩
  | .hbm, ⟨13, _⟩ => ⟨S512x120, .bf16⟩
  | .hbm, ⟨14, _⟩ => ⟨S512x1, .f32⟩
  | .hbm, ⟨15, _⟩ => ⟨S1x120, .f32⟩
  | .hbm, ⟨16, _⟩ => ⟨S8x1369x120, .f32⟩
  | .hbm, ⟨17, _⟩ => ⟨S8x37x37x20x6, .f32⟩
  | .local _ .vmem, ⟨0, _⟩ => ⟨S1x1024x1640, .bf16⟩
  | .local _ .vmem, ⟨1, _⟩ => ⟨S1x1024x1640, .bf16⟩
  | .local _ .vmem, ⟨2, _⟩ => ⟨S3x3x512x1024, .f32⟩
  | .local _ .vmem, ⟨3, _⟩ => ⟨S512x1, .f32⟩
  | .local _ .vmem, ⟨4, _⟩ => ⟨S512x120, .bf16⟩
  | .local _ .vmem, ⟨5, _⟩ => ⟨S1x120, .f32⟩
  | .local _ .vmem, ⟨6, _⟩ => ⟨S1x1369x120, .f32⟩
  | .local _ .vmem, ⟨7, _⟩ => ⟨S1x1369x120, .f32⟩
  | .local _ .vmem, ⟨8, _⟩ => ⟨S9x512x1024, .bf16⟩
  | _, _ => ⟨S8x1024x37x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1369x120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x1024x37x37 : Shape := ⟨4, ![8, 1024, 37, 37]⟩
abbrev S512x1024x3x3 : Shape := ⟨4, ![512, 1024, 3, 3]⟩
abbrev S512 : Shape := ⟨1, ![512]⟩
abbrev S120x512x1x1 : Shape := ⟨4, ![120, 512, 1, 1]⟩
abbrev S120 : Shape := ⟨1, ![120]⟩
abbrev S_ : Shape := ⟨0, ![]⟩
abbrev S8x1024x39x39 : Shape := ⟨4, ![8, 1024, 39, 39]⟩
abbrev S512x1024x1x1 : Shape := ⟨4, ![512, 1024, 1, 1]⟩
abbrev S512x1024 : Shape := ⟨2, ![512, 1024]⟩
abbrev S8x37x37x512 : Shape := ⟨4, ![8, 37, 37, 512]⟩
abbrev S1x1x1x512 : Shape := ⟨4, ![1, 1, 1, 512]⟩
abbrev S120x512 : Shape := ⟨2, ![120, 512]⟩
abbrev S8x37x37x120 : Shape := ⟨4, ![8, 37, 37, 120]⟩
abbrev S1x1x1x120 : Shape := ⟨4, ![1, 1, 1, 120]⟩
abbrev S8x37x37x20x6 : Shape := ⟨5, ![8, 37, 37, 20, 6]⟩

abbrev nBuf : Space → Nat
  | .hbm => 72
  | .vmem => 0
  | .smem => 0
  | _ => 0

abbrev bufTy : (tb : Table) → Fin (tcTables nBuf tb) → BufTy
  | .hbm, ⟨0, _⟩ => ⟨S8x1024x37x37, .f32⟩
  | .hbm, ⟨1, _⟩ => ⟨S512x1024x3x3, .f32⟩
  | .hbm, ⟨2, _⟩ => ⟨S512, .f32⟩
  | .hbm, ⟨3, _⟩ => ⟨S120x512x1x1, .f32⟩
  | .hbm, ⟨4, _⟩ => ⟨S120, .f32⟩
  | .hbm, ⟨5, _⟩ => ⟨S_, .i32⟩
  | .hbm, ⟨6, _⟩ => ⟨S_, .f32⟩
  | .hbm, ⟨7, _⟩ => ⟨S8x1024x39x39, .f32⟩
  | .hbm, ⟨8, _⟩ => ⟨S8x1024x37x37, .f32⟩
  | .hbm, ⟨9, _⟩ => ⟨S512x1024x1x1, .f32⟩
  | .hbm, ⟨10, _⟩ => ⟨S512x1024, .f32⟩
  | .hbm, ⟨11, _⟩ => ⟨S8x37x37x512, .f32⟩
  | .hbm, ⟨12, _⟩ => ⟨S_, .f32⟩
  | .hbm, ⟨13, _⟩ => ⟨S8x37x37x512, .f32⟩
  | .hbm, ⟨14, _⟩ => ⟨S8x37x37x512, .f32⟩
  | .hbm, ⟨15, _⟩ => ⟨S8x1024x37x37, .f32⟩
  | .hbm, ⟨16, _⟩ => ⟨S512x1024x1x1, .f32⟩
  | .hbm, ⟨17, _⟩ => ⟨S512x1024, .f32⟩
  | .hbm, ⟨18, _⟩ => ⟨S8x37x37x512, .f32⟩
  | .hbm, ⟨19, _⟩ => ⟨S8x37x37x512, .f32⟩
  | .hbm, ⟨20, _⟩ => ⟨S8x1024x37x37, .f32⟩
  | .hbm, ⟨21, _⟩ => ⟨S512x1024x1x1, .f32⟩
  | .hbm, ⟨22, _⟩ => ⟨S512x1024, .f32⟩
  | .hbm, ⟨23, _⟩ => ⟨S8x37x37x512, .f32⟩
  | .hbm, ⟨24, _⟩ => ⟨S8x37x37x512, .f32⟩
  | .hbm, ⟨25, _⟩ => ⟨S8x1024x37x37, .f32⟩
  | .hbm, ⟨26, _⟩ => ⟨S512x1024x1x1, .f32⟩
  | .hbm, ⟨27, _⟩ => ⟨S512x1024, .f32⟩
  | .hbm, ⟨28, _⟩ => ⟨S8x37x37x512, .f32⟩
  | .hbm, ⟨29, _⟩ => ⟨S8x37x37x512, .f32⟩
  | .hbm, ⟨30, _⟩ => ⟨S8x1024x37x37, .f32⟩
  | .hbm, ⟨31, _⟩ => ⟨S512x1024x1x1, .f32⟩
  | .hbm, ⟨32, _⟩ => ⟨S512x1024, .f32⟩
  | .hbm, ⟨33, _⟩ => ⟨S8x37x37x512, .f32⟩
  | .hbm, ⟨34, _⟩ => ⟨S8x37x37x512, .f32⟩
  | .hbm, ⟨35, _⟩ => ⟨S8x1024x37x37, .f32⟩
  | .hbm, ⟨36, _⟩ => ⟨S512x1024x1x1, .f32⟩
  | .hbm, ⟨37, _⟩ => ⟨S512x1024, .f32⟩
  | .hbm, ⟨38, _⟩ => ⟨S8x37x37x512, .f32⟩
  | .hbm, ⟨39, _⟩ => ⟨S8x37x37x512, .f32⟩
  | .hbm, ⟨40, _⟩ => ⟨S8x1024x37x37, .f32⟩
  | .hbm, ⟨41, _⟩ => ⟨S512x1024x1x1, .f32⟩
  | .hbm, ⟨42, _⟩ => ⟨S512x1024, .f32⟩
  | .hbm, ⟨43, _⟩ => ⟨S8x37x37x512, .f32⟩
  | .hbm, ⟨44, _⟩ => ⟨S8x37x37x512, .f32⟩
  | .hbm, ⟨45, _⟩ => ⟨S8x1024x37x37, .f32⟩
  | .hbm, ⟨46, _⟩ => ⟨S512x1024x1x1, .f32⟩
  | .hbm, ⟨47, _⟩ => ⟨S512x1024, .f32⟩
  | .hbm, ⟨48, _⟩ => ⟨S8x37x37x512, .f32⟩
  | .hbm, ⟨49, _⟩ => ⟨S8x37x37x512, .f32⟩
  | .hbm, ⟨50, _⟩ => ⟨S8x1024x37x37, .f32⟩
  | .hbm, ⟨51, _⟩ => ⟨S512x1024x1x1, .f32⟩
  | .hbm, ⟨52, _⟩ => ⟨S512x1024, .f32⟩
  | .hbm, ⟨53, _⟩ => ⟨S8x37x37x512, .f32⟩
  | .hbm, ⟨54, _⟩ => ⟨S8x37x37x512, .f32⟩
  | .hbm, ⟨55, _⟩ => ⟨S1x1x1x512, .f32⟩
  | .hbm, ⟨56, _⟩ => ⟨S8x37x37x512, .f32⟩
  | .hbm, ⟨57, _⟩ => ⟨S8x37x37x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8x37x37x512, .f32⟩
  | .hbm, ⟨62, _⟩ => ⟨S8x37x37x512, .f32⟩
  | .hbm, ⟨63, _⟩ => ⟨S_, .f32⟩
  | .hbm, ⟨64, _⟩ => ⟨S8x37x37x512, .f32⟩
  | .hbm, ⟨65, _⟩ => ⟨S8x37x37x512, .f32⟩
  | .hbm, ⟨66, _⟩ => ⟨S120x512, .f32⟩
  | .hbm, ⟨67, _⟩ => ⟨S8x37x37x120, .f32⟩
  | .hbm, ⟨68, _⟩ => ⟨S1x1x1x120, .f32⟩
  | .hbm, ⟨69, _⟩ => ⟨S8x37x37x120, .f32⟩
  | .hbm, ⟨70, _⟩ => ⟨S8x37x37x120, .f32⟩
  | .hbm, ⟨71, _⟩ => ⟨S8x37x37x20x6, .f32⟩
  | _, _ => ⟨S8x1024x37x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_0 : Ref sig .tc := ⟨.hbm, 58, rfl⟩
abbrev main_cst_1 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proof.Spec.lean ====
/- The network's value as plain sums: a 3x3 convolution with a border of zeros, a bias, a clip to
   [0, 6], a 1x1 convolution and a second bias. Both programs are shown to compute `head`. -/
module

public import Idealize.ShloMosaic.Lib.Pointwise
public import Idealize.ShloMosaic.Lib.ValueIdx

@[expose] public section

noncomputable section

namespace Cert.Conv

open Idealize.ShloMosaic
open scoped BigOperators

/-- The image, the 3x3 weights, the first bias, the 1x1 weights and the second bias. -/
abbrev Img := (⟨4, ![8, 1024, 37, 37]⟩ : Shape).Idx → EReal
abbrev Wt1 := (⟨4, ![512, 1024, 3, 3]⟩ : Shape).Idx → EReal
abbrev Bias1 := (⟨1, ![512]⟩ : Shape).Idx → EReal
abbrev Wt2 := (⟨4, ![120, 512, 1, 1]⟩ : Shape).Idx → EReal
abbrev Bias2 := (⟨1, ![120]⟩ : Shape).Idx → EReal

/-- The image with a border of zeros, at row `r` and column `s` of the bordered picture: the image
    itself where both lie in 1 … 37, zero elsewhere. -/
def padded (x : Img) (b : Fin 8) (c : Fin 1024) (r s : ℕ) : EReal :=
  if h : (1 ≤ r ∧ r ≤ 37) ∧ (1 ≤ s ∧ s ≤ 37) then
    x (ix4 b c (⟨r - 1, by omega⟩ : Fin 37) (⟨s - 1, by omega⟩ : Fin 37))
  else 0

/-- One tap of the 3x3 convolution: the sum over the input channels of the weight at `(i, j)` times
    the bordered image shifted by `(i, j)`. -/
def tap (x : Img) (w : Wt1) (b : Fin 8) (k : Fin 512) (h s : ℕ) (i j : Fin 3) : EReal :=
  ∑ c : Fin 1024, w (ix4 k c i j) * padded x b c (h + i.val) (s + j.val)

/-- The nine taps added up. -/
def conv (x : Img) (w : Wt1) (b : Fin 8) (k : Fin 512) (h s : ℕ) : EReal :=
  ∑ i : Fin 3, ∑ j : Fin 3, tap x w b k h s i j

/-- The hidden layer: the convolution and the bias, clipped to [0, 6]. -/
def hidden (x : Img) (w : Wt1) (b1 : Bias1) (b : Fin 8) (k : Fin 512) (h s : ℕ) : EReal :=
  min (Ideal.ofBits .f32 0x40C00000#32) (max 0 (conv x w b k h s + b1 (ix1 k)))

/-- The result for picture `b` at position `p` (row `p / 37`, column `p % 37`), output channel `o`. -/
def head (x : Img) (w : Wt1) (b1 : Bias1) (w2 : Wt2) (b2 : Bias2) (b : Fin 8) (p : ℕ) (o : Fin 120) :
    EReal :=
  ∑ k : Fin 512, hidden x w b1 b k (p / 37) (p % 37) * w2 (ix4 o k 0 0) + b2 (ix1 o)

/-- The nine taps one by one, row by row. -/
theorem conv_eq_nine (x : Img) (w : Wt1) (b : Fin 8) (k : Fin 512) (h s : ℕ) :
    conv x w b k h s =
      tap x w b k h s 0 0 + tap x w b k h s 0 1 + tap x w b k h s 0 2
        + tap x w b k h s 1 0 + tap x w b k h s 1 1 + tap x w b k h s 1 2
        + tap x w b k h s 2 0 + tap x w b k h s 2 1 + tap x w b k h s 2 2 := by
  simp only [conv, Fin.sum_univ_three]
  ac_rfl

/-- The result's index of output channel `6 a + d`. -/
abbrev chan (a : Fin 20) (d : Fin 6) : Fin 120 := ⟨a.val * 6 + d.val, by omega⟩

/-- The whole result: at image `b`, row `h`, column `s`, anchor `a` and target `d`, the network's value for image `b` at
    position `37 h + s`, channel `6 a + d`. -/
def result (x : Img) (w : Wt1) (b1 : Bias1) (w2 : Wt2) (b2 : Bias2) :
    (⟨5, ![8, 37, 37, 20, 6]⟩ : Shape).Idx → EReal := fun i =>
  head x w b1 w2 b2 (i 0) ((i 1).val * 37 + (i 2).val) (chan (i 3) (i 4))

/-- A function on the result's indices is `result` where it is so at every quintuple of coordinates. -/
theorem eq_result (f : (⟨5, ![8, 37, 37, 20, 6]⟩ : Shape).Idx → EReal) (x : Img) (w : Wt1) (b1 : Bias1) (w2 : Wt2) (b2 : Bias2)
    (h : ∀ (b : Fin 8) (r s : Fin 37) (a : Fin 20) (d : Fin 6),
      f (ix5 b r s a d) = head x w b1 w2 b2 b (r.val * 37 + s.val) (chan a d)) : f = result x w b1 w2 b2 := by
  funext i
  rw [eq_ix5 i]
  exact h (i 0) (i 1) (i 2) (i 3) (i 4)

end Cert.Conv
-- ==== Proof.Body.lean ====
/- What the kernel's body leaves in its output block, as a function of the blocks it reads: `zOf` is the
   whole product table it computes, and the block holds 37 of every 40 rows of that table. -/
module

public import proofs.«01_k».proof.Proof.Gen.KernelIdeal.Frame
public import proofs.«01_k».proof.Proof.Spec
public import Idealize.ShloMosaic.Lib.Pipeline.ValueKit
public import Idealize.ShloMosaic.Lib.Pipeline.ReadBack

@[expose] public section

noncomputable section

namespace Cert.KernelIdeal.BodyValue

open Cert.KernelIdeal Cert.KernelIdeal.Gen Idealize.ShloMosaic Idealize.ShloMosaic.TcCoe Idealize.SL.Sem
open scoped BigOperators

/-- The weight slab of tap `n`, as the body loads it from the rearranged weights. -/
abbrev slab (s : Vec Ideal S9x512x1024 .bf16) (n : ℕ)
    (h : ∀ a, (![n, 0, 0] : Fin 3 → ℕ) a + (![1, 512, 1024] : Fin 3 → ℕ) a ≤ S9x512x1024.size a) :
    Vec Ideal S1x512x1024 .bf16 :=
  View.ld s (Rect.unit (s := S9x512x1024) ![n, 0, 0] ![1, 512, 1024] h)

/-- The image window that starts `n` positions in, as the body loads it. -/
abbrev shifted (x : Vec Ideal S1x1024x1640 .bf16) (n : ℕ)
    (h : ∀ a, (![0, 0, n] : Fin 3 → ℕ) a + (![1, 1024, 1536] : Fin 3 → ℕ) a ≤ S1x1024x1640.size a) :
    Vec Ideal S1x1024x1536 .bf16 :=
  View.ld x (Rect.unit (s := S1x1024x1640) ![0, 0, n] ![1, 1024, 1536] h)

/-- A slab at an index is the rearranged weights at its tap. -/
theorem slab_apply (s : Vec Ideal S9x512x1024 .bf16) (n : ℕ) (h) (hn : n < 9) (k : Fin 512) (c : Fin 1024) :
    slab s n h (ix3 0 k c) = s (ix3 (⟨n, hn⟩ : Fin 9) k c) :=
  View.ld_unit_apply_of (S := S9x512x1024) s _ _ _ _ _ fun a => by
    fin_cases a <;> simp

/-- A shifted window at an index is the image that many positions further. -/
theorem shifted_apply (x : Vec Ideal S1x1024x1640 .bf16) (n : ℕ) (h) (c : Fin 1024) (q : Fin 1536)
    (hn : n + q.val < 1640) :
    shifted x n h (ix3 0 c q) = x (ix3 0 c (⟨n + q.val, hn⟩ : Fin 1640)) :=
  View.ld_unit_apply_of (S := S1x1024x1640) x _ _ _ _ _ fun a => by
    fin_cases a <;> simp

/-- The table of all products the body computes, from the rearranged weights `s`, the image block `x`,
    the first bias, the second weights and the second bias. -/
def zOf (s : Vec Ideal S9x512x1024 .bf16) (x : Vec Ideal S1x1024x1640 .bf16) (x2 : Vec Ideal S512x1 .f32)
    (x3 : Vec Ideal S512x120 .bf16) (x4 : Vec Ideal S1x120 .f32) : FVec Ideal S1536x120 .f32 :=
  k0_pay13
    (k0_pay10
      (k0_pay7 (slab s 0 inb_S9x512x1024_S1x512x1024_0_0_0) (shifted x 0 inb_S1x1024x1640_S1x1024x1536_0_0_0)
        (slab s 2 inb_S9x512x1024_S1x512x1024_2_0_0) (shifted x 2 inb_S1x1024x1640_S1x1024x1536_0_0_2))
      (slab s 4 inb_S9x512x1024_S1x512x1024_4_0_0) (shifted x 41 inb_S1x1024x1640_S1x1024x1536_0_0_41)
      (slab s 6 inb_S9x512x1024_S1x512x1024_6_0_0) (shifted x 80 inb_S1x1024x1640_S1x1024x1536_0_0_80))
    (k0_pay11
      (k0_pay6 (slab s 1 inb_S9x512x1024_S1x512x1024_1_0_0) (shifted x 1 inb_S1x1024x1640_S1x1024x1536_0_0_1))
      (k0_pay8 (slab s 3 inb_S9x512x1024_S1x512x1024_3_0_0)) (k0_pay9 (shifted x 40 inb_S1x1024x1640_S1x1024x1536_0_0_40))
      (slab s 5 inb_S9x512x1024_S1x512x1024_5_0_0) (shifted x 42 inb_S1x1024x1640_S1x1024x1536_0_0_42)
      (slab s 7 inb_S9x512x1024_S1x512x1024_7_0_0) (shifted x 81 inb_S1x1024x1640_S1x1024x1536_0_0_81))
    (k0_pay12 (slab s 8 inb_S9x512x1024_S1x512x1024_8_0_0)) (shifted x 82 inb_S1x1024x1640_S1x1024x1536_0_0_82)
    x2 x3 x4

/-- One stored piece: 37 rows of a table from row `off` on, under a new unit axis, read at an index. -/
theorem piece_apply (Z : FVec Ideal S1536x120 .f32) (off : ℕ) (hs : S1536x120.Slices ![off, 0] S37x120)
    (hc : S37x120.ShapeCasts S1x37x120) (x : S1x37x120.Idx) (i : S1536x120.Idx)
    (h0 : (i 0).val = off + (x 1).val) (h1 : (i 1).val = (x 2).val) :
    shapeCast S1x37x120 (extractStridedSlice S37x120 ![off, 0] Z hs) hc x = Z i := by
  refine (shapeCast_addUnit_apply ![37, 120] _ hc x).trans ?_
  refine extractStridedSlice_apply ![off, 0] Z hs _ i fun a => ?_
  match a with
  | ⟨0, _⟩ => exact h0
  | ⟨1, _⟩ => exact h1.trans (Nat.zero_add _).symm

section Cases

variable (c : Dev nD) (i : grid0.Coords)
  (arg1 : Memref sig .tc .vmem S1x1024x1640 .bf16) (harg1 : arg1.IsWhole)
  (arg2 : Memref sig .tc .vmem S3x3x512x1024 .f32) (harg2 : arg2.IsWhole)
  (arg3 : Memref sig .tc .vmem S512x1 .f32) (harg3 : arg3.IsWhole)
  (arg4 : Memref sig .tc .vmem S512x120 .bf16) (harg4 : arg4.IsWhole)
  (arg5 : Memref sig .tc .vmem S1x120 .f32) (harg5 : arg5.IsWhole)
  (arg6 : Memref sig .tc .vmem S1x1369x120 .f32) (harg6 : arg6.IsWhole)
  (arg7 : Memref sig .tc .vmem S9x512x1024 .bf16) (harg7 : arg7.IsWhole)
  (x0 : Vec Ideal S1x1024x1640 .bf16) (x1 : Vec Ideal S3x3x512x1024 .f32) (x2 : Vec Ideal S512x1 .f32)
  (x3 : Vec Ideal S512x120 .bf16) (x4 : Vec Ideal S1x120 .f32) (xs : Vec Ideal S9x512x1024 .bf16)

/-- At every grid point but the first, row `p` of the output block is row `40 (p / 37) + p % 37` of the
    table over the weights that the point before left. -/
theorem out_B (hc0 : ¬cond0_0 i) (y : S1x1369x120.Idx) (q : S1536x120.Idx)
    (hq0 : (q 0).val = 40 * ((y 1).val / 37) + (y 1).val % 37) (hq1 : (q 1).val = (y 2).val) :
    out0_B_5 c i arg1 harg1 arg2 harg2 arg3 harg3 arg4 harg4 arg5 harg5 arg6 harg6 arg7 harg7 hc0
      x0 x1 x2 x3 x4 xs y = zOf xs x0 x2 x3 x4 q := by
  frame_out
  unfold zOf slab shifted
  canon_tiles x h
  all_goals (open_payloads; refine piece_apply _ _ _ _ x q ?_ ?_ <;> omega)

/-- At the first grid point, likewise over the weights that this point rearranges itself. -/
theorem out_A (hc0 : cond0_0 i) (y : S1x1369x120.Idx) (q : S1536x120.Idx)
    (hq0 : (q 0).val = 40 * ((y 1).val / 37) + (y 1).val % 37) (hq1 : (q 1).val = (y 2).val) :
    out0_A_5 c i arg1 harg1 arg2 harg2 arg3 harg3 arg4 harg4 arg5 harg5 arg6 harg6 arg7 harg7 hc0
      x0 x1 x2 x3 x4 y = zOf (k0_pay5 x1) x0 x2 x3 x4 q := by
  frame_out
  simp (disch := decide) only [↓ View.readCov_fill]
  unfold zOf slab shifted
  canon_tiles x h
  all_goals (open_payloads; refine piece_apply _ _ _ _ x q ?_ ?_ <;> omega)

/-- What the first grid point leaves in the scratch: the rearranged weights. -/
theorem sout_A (hc0 : cond0_0 i) :
    sout0_A_0 c i arg1 harg1 arg2 harg2 arg3 harg3 arg4 harg4 arg5 harg5 arg6 harg6 arg7 harg7 hc0
      x0 x1 x2 x3 x4 = k0_pay5 x1 := by
  frame_out

end Cases

/-- The rearranged weights at an index. -/
theorem weights_apply (x1 : Vec Ideal S3x3x512x1024 .f32) (t : Fin 9) (k : Fin 512) (c : Fin 1024) :
    k0_pay5 x1 (ix3 t k c)
      = x1 (ix4 (⟨t.val / 3, by omega⟩ : Fin 3) (⟨t.val % 3, by omega⟩ : Fin 3) k c) := by
  unfold k0_pay5
  pointwise

/-- The sum over the channels of slab `t` times the image `n` positions on. -/
def dotAt (s : Vec Ideal S9x512x1024 .bf16) (x : Vec Ideal S1x1024x1640 .bf16) (k : Fin 512) (t : Fin 9) (r : Fin 1640) :
    EReal :=
  ∑ c : Fin 1024, s (ix3 t k c) * x (ix3 0 c r)

/-- A slab times a shifted window, summed over the channels. -/
theorem dot_slab (s : Vec Ideal S9x512x1024 .bf16) (x : Vec Ideal S1x1024x1640 .bf16) (k : Fin 512) (q : Fin 1536)
    (t n : ℕ) (h h') (t' : Fin 9) (r : Fin 1640) (ht : t'.val = t) (hr : r.val = n + q.val) :
    ∑ c : Fin 1024, slab s t h (ix3 0 k c) * shifted x n h' (ix3 0 c q) = dotAt s x k t' r := by
  subst ht
  refine Finset.sum_congr rfl fun c _ => ?_
  rw [slab_apply s _ h t'.isLt, shifted_apply x n h' c q (hr ▸ r.isLt)]
  exact congrArg (fun r' => s (ix3 t' k c) * x (ix3 0 c r')) (Fin.ext hr.symm)

/-- The table at row `q`, channel `o`: even taps first, then odd ones, the bias, the clip to [0, 6], and the
    sum over the hidden channels. -/
theorem zOf_apply (s : Vec Ideal S9x512x1024 .bf16) (x : Vec Ideal S1x1024x1640 .bf16) (x2 : Vec Ideal S512x1 .f32)
    (x3 : Vec Ideal S512x120 .bf16) (x4 : Vec Ideal S1x120 .f32) (q : Fin 1536) (o : Fin 120) :
    zOf s x x2 x3 x4 (ix2 q o) =
      ∑ k : Fin 512,
        min (Ideal.ofBits .f32 0x40C00000#32) (max 0
          ((dotAt s x k 0 ⟨q.val, by omega⟩ + dotAt s x k 2 ⟨2 + q.val, by omega⟩
              + dotAt s x k 4 ⟨41 + q.val, by omega⟩ + dotAt s x k 6 ⟨80 + q.val, by omega⟩
              + dotAt s x k 8 ⟨82 + q.val, by omega⟩)
            + (dotAt s x k 1 ⟨1 + q.val, by omega⟩ + dotAt s x k 3 ⟨40 + q.val, by omega⟩
              + dotAt s x k 5 ⟨42 + q.val, by omega⟩ + dotAt s x k 7 ⟨81 + q.val, by omega⟩)
            + x2 (ix2 k 0)))
        * x3 (ix2 k o) + x4 (ix2 0 o) := by
  unfold zOf k0_pay13 k0_pay10 k0_pay7 k0_pay11 k0_pay6 k0_pay8 k0_pay9 k0_pay12
  pointwise
  refine congrArg (· + x4 (ix2 0 o)) (Finset.sum_congr rfl fun k _ => ?_)
  rw [dot_slab s x k q 0 0 _ _ 0 ⟨q.val, by omega⟩ rfl (Nat.zero_add _).symm,
    dot_slab s x k q 2 2 _ _ 2 ⟨2 + q.val, by omega⟩ rfl rfl,
    dot_slab s x k q 4 41 _ _ 4 ⟨41 + q.val, by omega⟩ rfl rfl,
    dot_slab s x k q 6 80 _ _ 6 ⟨80 + q.val, by omega⟩ rfl rfl,
    dot_slab s x k q 8 82 _ _ 8 ⟨82 + q.val, by omega⟩ rfl rfl,
    dot_slab s x k q 1 1 _ _ 1 ⟨1 + q.val, by omega⟩ rfl rfl,
    dot_slab s x k q 3 40 _ _ 3 ⟨40 + q.val, by omega⟩ rfl rfl,
    dot_slab s x k q 5 42 _ _ 5 ⟨42 + q.val, by omega⟩ rfl rfl,
    dot_slab s x k q 7 81 _ _ 7 ⟨81 + q.val, by omega⟩ rfl rfl]

/-- The table is the network's value: where the rearranged weights are the 3x3 weights, the image block is
    the bordered picture in rows of 40, and the other blocks are the biases and the second weights, row
    `40 (p / 37) + p % 37` of the table is the network's value at position `p`. -/
theorem zOf_eq_head (X : Conv.Img) (W1 : Conv.Wt1) (B1 : Conv.Bias1) (W2 : Conv.Wt2) (B2 : Conv.Bias2) (b : Fin 8)
    (s : Vec Ideal S9x512x1024 .bf16) (x : Vec Ideal S1x1024x1640 .bf16) (x2 : Vec Ideal S512x1 .f32)
    (x3 : Vec Ideal S512x120 .bf16) (x4 : Vec Ideal S1x120 .f32)
    (hs : ∀ (i j : Fin 3) (t : Fin 9) (_ : t.val = 3 * i.val + j.val) (k : Fin 512) (c : Fin 1024),
      s (ix3 t k c) = W1 (ix4 k c i j))
    (hx : ∀ (c : Fin 1024) (r : Fin 1640), x (ix3 0 c r) = Conv.padded X b c (r.val / 40) (r.val % 40))
    (h2 : ∀ k : Fin 512, x2 (ix2 k 0) = B1 (ix1 k))
    (h3 : ∀ (k : Fin 512) (o : Fin 120), x3 (ix2 k o) = W2 (ix4 o k 0 0))
    (h4 : ∀ o : Fin 120, x4 (ix2 0 o) = B2 (ix1 o))
    (p : Fin 1369) (o : Fin 120) (q : Fin 1536) (hq : q.val = 40 * (p.val / 37) + p.val % 37) :
    zOf s x x2 x3 x4 (ix2 q o) = Conv.head X W1 B1 W2 B2 b p.val o := by
  have hd : ∀ (k : Fin 512) (i j : Fin 3) (t : Fin 9) (r : Fin 1640), t.val = 3 * i.val + j.val →
      r.val = q.val + 40 * i.val + j.val → dotAt s x k t r = Conv.tap X W1 b k (p.val / 37) (p.val % 37) i j := by
    intro k i j t r ht hr
    have e1 : r.val / 40 = p.val / 37 + i.val := by omega
    have e2 : r.val % 40 = p.val % 37 + j.val := by omega
    refine Finset.sum_congr rfl fun c _ => ?_
    rw [hs i j t ht, hx, e1, e2]
  rw [zOf_apply, h4]
  refine congrArg (· + B2 (ix1 o)) (Finset.sum_congr rfl fun k _ => ?_)
  rw [hd k 0 0 0 _ rfl (by simp), hd k 0 1 1 _ rfl (by simp; omega), hd k 0 2 2 _ rfl (by simp; omega),
    hd k 1 0 3 _ rfl (by simp; omega), hd k 1 1 4 _ rfl (by simp; omega), hd k 1 2 5 _ rfl (by simp; omega),
    hd k 2 0 6 _ rfl (by simp; omega), hd k 2 1 7 _ rfl (by simp; omega), hd k 2 2 8 _ rfl (by simp; omega),
    h2, h3, Conv.hidden, Conv.conv_eq_nine]
  congr 3
  ac_rfl

end Cert.KernelIdeal.BodyValue
-- ==== Proof.HostIn.lean ====
/- The arrays the kernel's grid reads, as the host code before it prepares them, at an index. -/
module

public import proofs.«01_k».proof.Proof.Body

@[expose] public section

noncomputable section

namespace Cert.KernelIdeal.HostIn

open Cert.KernelIdeal Cert.KernelIdeal.Gen Idealize.ShloMosaic Idealize.ShloMosaic.TcCoe Idealize.SL.Sem

variable (m : (ℓ : Loc nD τ sig) → Buf (Elt Ideal) ℓ)

/-- The image, the weights and the biases the program is launched with. -/
abbrev image (c : Dev nD) : Conv.Img := m ((c : Thread nD τ).loc main_arg0)
abbrev weights1 (c : Dev nD) : Conv.Wt1 := m ((c : Thread nD τ).loc main_arg1)
abbrev bias1 (c : Dev nD) : Conv.Bias1 := m ((c : Thread nD τ).loc main_arg2)
abbrev weights2 (c : Dev nD) : Conv.Wt2 := m ((c : Thread nD τ).loc main_arg3)
abbrev bias2 (c : Dev nD) : Conv.Bias2 := m ((c : Thread nD τ).loc main_arg4)

/-- The image array: the picture with its border of zeros, in rows of 40, the rows one after another. -/
theorem image_entry (c : Dev nD) (b : Fin 8) (ch : Fin 1024) (r : Fin 1640) :
    (V m c main_v2 : S8x1024x1640.Idx → EReal) (ix3 b ch r) = Conv.padded (image m c) b ch (r.val / 40) (r.val % 40) := by
  dsimp only [V, V0, hostOps0, hostOps0_1, hostOps0_2, List.flatten_cons, List.flatten_nil, List.append_nil,
    List.cons_append, List.nil_append]
  after_results
  simp only [StableHlo.TRef.toBuf, StableHlo.TRef.ofBuf, cast_eq]
  pointwise
  unfold Conv.padded
  by_cases h : (1 ≤ r.val / 40 ∧ r.val / 40 ≤ 37) ∧ (1 ≤ r.val % 40 ∧ r.val % 40 ≤ 37)
  · rw [dif_pos (by omega), dif_pos h]
  · rw [dif_neg (by omega), dif_neg h]
    exact (congrArg (fun z : ℝ => (z : EReal)) (by norm_num)).trans EReal.coe_zero

/-- The 3x3 weights, the two window axes first. -/
theorem weights1_entry (c : Dev nD) (i j : Fin 3) (k : Fin 512) (ch : Fin 1024) :
    (V m c main_v3 : S3x3x512x1024.Idx → EReal) (ix4 i j k ch) = weights1 m c (ix4 k ch i j) := by
  dsimp only [V, V0, hostOps0, hostOps0_1, hostOps0_2, List.flatten_cons, List.flatten_nil, List.append_nil,
    List.cons_append, List.nil_append]
  after_results
  pointwise

/-- The first bias as a column. -/
theorem bias1_entry (c : Dev nD) (k : Fin 512) :
    (V m c main_v7 : S512x1.Idx → EReal) (ix2 k 0) = bias1 m c (ix1 k) := by
  dsimp only [V, V0, hostOps0, hostOps0_1, hostOps0_2, List.flatten_cons, List.flatten_nil, List.append_nil,
    List.cons_append, List.nil_append]
  after_results
  pointwise

/-- The 1x1 weights, transposed. -/
theorem weights2_entry (c : Dev nD) (k : Fin 512) (o : Fin 120) :
    (V m c main_v6 : S512x120.Idx → EReal) (ix2 k o) = weights2 m c (ix4 o k 0 0) := by
  dsimp only [V, V0, hostOps0, hostOps0_1, hostOps0_2, List.flatten_cons, List.flatten_nil, List.append_nil,
    List.cons_append, List.nil_append]
  after_results
  pointwise

/-- The second bias as a row. -/
theorem bias2_entry (c : Dev nD) (o : Fin 120) :
    (V m c main_v8 : S1x120.Idx → EReal) (ix2 0 o) = bias2 m c (ix1 o) := by
  dsimp only [V, V0, hostOps0, hostOps0_1, hostOps0_2, List.flatten_cons, List.flatten_nil, List.append_nil,
    List.cons_append, List.nil_append]
  after_results
  pointwise

end Cert.KernelIdeal.HostIn
-- ==== Proof.Block.lean ====
/- The blocks the kernel's grid points read, at an index; the scratch they carry; the array the grid
   leaves, the network's value at every index; and the kernel's result after its last reshape. -/
module

public import proofs.«01_k».proof.Proof.HostIn
public import Idealize.ShloMosaic.Lib.Pipeline.ValueKit.Held

@[expose] public section

noncomputable section

namespace Cert.KernelIdeal.Blocks

open Cert.KernelIdeal Cert.KernelIdeal.Gen Idealize.ShloMosaic Idealize.ShloMosaic.TcCoe Idealize.SL.Sem
open Cert.KernelIdeal.HostIn Cert.KernelIdeal.BodyValue
open Idealize.ShloMosaic.Pipeline (Dat)

variable (m : (ℓ : Loc nD τ sig) → Buf (Elt Ideal) ℓ)

/-- Which block of its array each window is at: the point's image and output, and the whole of the rest. -/
theorem index_image : ∀ t : Fin cfg0.N, win0_0.index t = ![t.val, 0, 0] := by decide +kernel
theorem index_weights1 : ∀ t : Fin cfg0.N, win0_1.index t = ![0, 0, 0, 0] := by decide +kernel
theorem index_bias1 : ∀ t : Fin cfg0.N, win0_2.index t = ![0, 0] := by decide +kernel
theorem index_weights2 : ∀ t : Fin cfg0.N, win0_3.index t = ![0, 0] := by decide +kernel
theorem index_bias2 : ∀ t : Fin cfg0.N, win0_4.index t = ![0, 0] := by decide +kernel
theorem index_out : ∀ t : Fin cfg0.N, win0_5.index t = ![t.val, 0, 0] := by decide +kernel

/-- Where the elements of point `t`'s image block sit in the image array. -/
theorem image_place (t : Fin cfg0.N) (b : Fin 8) (hb : b.val = t.val) (ch : Fin 1024) (r : Fin 1640) :
    ((win0_0.blk t).view.emb (ix3 0 ch r) : S8x1024x1640.Idx) = ix3 b ch r := by
  blk_ext [index_image, hb]

/-- An element of point `t`'s block of an image array is the array's element at its place. -/
theorem image_read (t : Fin cfg0.N) (A : S8x1024x1640.Idx → EReal) (y : S1x1024x1640.Idx) :
    ((cfg0.win 0).blk t).view.read (Elt Ideal) A y = A ((win0_0.blk t).view.emb y) := rfl

/-- Point `t`'s image block is image `t` with its border. -/
theorem image_block (c : Dev nD) (t : Fin cfg0.N) (b : Fin 8) (hb : b.val = t.val) (ch : Fin 1024) (r : Fin 1640) :
    iblk m c 0 t (ix3 0 ch r) = Conv.padded (image m c) b ch (r.val / 40) (r.val % 40) :=
  ((image_read t (V m c main_v2) (ix3 0 ch r)).trans
    (congrArg (V m c main_v2 : S8x1024x1640.Idx → EReal) (image_place t b hb ch r))).trans (image_entry m c b ch r)

/-- Every point's other blocks: the weights and the biases. -/
theorem weights1_block (c : Dev nD) (t : Fin cfg0.N) (i j : Fin 3) (k : Fin 512) (ch : Fin 1024) :
    iblk m c 1 t (ix4 i j k ch) = weights1 m c (ix4 k ch i j) := by
  refine Eq.trans ?_ (weights1_entry m c i j k ch)
  blk_ext [iblk, index_weights1]

theorem bias1_block (c : Dev nD) (t : Fin cfg0.N) (k : Fin 512) :
    iblk m c 2 t (ix2 k 0) = bias1 m c (ix1 k) := by
  refine Eq.trans ?_ (bias1_entry m c k)
  blk_ext [iblk, index_bias1]

theorem weights2_block (c : Dev nD) (t : Fin cfg0.N) (k : Fin 512) (o : Fin 120) :
    iblk m c 3 t (ix2 k o) = weights2 m c (ix4 o k 0 0) := by
  refine Eq.trans ?_ (weights2_entry m c k o)
  blk_ext [iblk, index_weights2]

theorem bias2_block (c : Dev nD) (t : Fin cfg0.N) (o : Fin 120) :
    iblk m c 4 t (ix2 0 o) = bias2 m c (ix1 o) := by
  refine Eq.trans ?_ (bias2_entry m c o)
  blk_ext [iblk, index_bias2]

/-- The first point leaves the rearranged weights in the scratch. -/
theorem scratch_first (c : Dev nD) (t : Fin cfg0.N) (h0 : t.val % 8 = 0) :
    (outsAt0 m c t.val t.isLt).2 = k0_pay5 (iblk m c 1 t) := by
  rw [outsAt0_A m c t h0]
  dsimp only
  rw [sout_A]

/-- Every other point leaves the scratch as it found it. -/
theorem scratch_rest (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only
  rfl

/-- So after every point the scratch holds the weights that the first point rearranged. -/
theorem scratch_held (c : Dev nD) (t : Fin cfg0.N) :
    (outsAt0 m c t.val t.isLt).2 = k0_pay5 (iblk m c 1 ⟨8 * (t.val / 8), Pipeline.run_start_lt t⟩) :=
  Pipeline.eq_of_write_hold (fun n h => (outsAt0 m c n h).2) 8 (fun t => k0_pay5 (iblk m c 1 t))
    (scratch_first m c) (scratch_rest m c) t

/-- Rearranged weights, at any point's block. -/
theorem slab_weights (c : Dev nD) (t' : Fin cfg0.N) (i j : Fin 3) (t : Fin 9) (ht : t.val = 3 * i.val + j.val) (k : Fin 512)
    (ch : Fin 1024) : k0_pay5 (iblk m c 1 t') (ix3 t k ch) = weights1 m c (ix4 k ch i j) := by
  rw [weights_apply]
  have e1 : (⟨t.val / 3, by omega⟩ : Fin 3) = i := Fin.ext (by show t.val / 3 = i.val; omega)
  have e2 : (⟨t.val % 3, by omega⟩ : Fin 3) = j := Fin.ext (by show t.val % 3 = j.val; omega)
  rw [e1, e2]
  exact weights1_block m c t' i j k ch

/-- The network's value at every index: what the grid is to leave. -/
def network (c : Dev nD) : S8x1369x120.Idx → EReal := fun i =>
  Conv.head (image m c) (weights1 m c) (bias1 m c) (weights2 m c) (bias2 m c) (i 0) (i 1).val (i 2)

/-- What point `t` leaves in its output block: the network's value for image `t`. -/
theorem point_out (c : Dev nD) (t : Fin cfg0.N) (y : S1x1369x120.Idx) (b : Fin 8) (hb : b.val = t.val) :
    (outsAt0 m c t.val t.isLt).1 y
      = Conv.head (image m c) (weights1 m c) (bias1 m c) (weights2 m c) (bias2 m c) b (y 1).val (y 2) := by
  have hy : (y 1).val < 1369 := (y 1).isLt
  have key : ∀ s : Vec Ideal S9x512x1024 .bf16, (∃ t', s = k0_pay5 (iblk m c 1 t')) →
      zOf s (iblk m c 0 t) (iblk m c 2 t) (iblk m c 3 t) (iblk m c 4 t)
        (ix2 (⟨40 * ((y 1).val / 37) + (y 1).val % 37, by omega⟩ : Fin 1536) (y 2))
        = Conv.head (image m c) (weights1 m c) (bias1 m c) (weights2 m c) (bias2 m c) b (y 1).val (y 2) := by
    rintro s ⟨t', rfl⟩
    exact zOf_eq_head _ _ _ _ _ b _ _ _ _ _ (slab_weights m c t') (image_block m c t b hb) (bias1_block m c t)
      (weights2_block m c t) (bias2_block m c t) (y 1) (y 2) _ rfl
  by_cases h0 : t.val % 8 = 0
  · rw [outsAt0_A m c t h0]
    dsimp only
    rw [out_A (q := ix2 (⟨40 * ((y 1).val / 37) + (y 1).val % 37, by omega⟩ : Fin 1536) (y 2)) (hq0 := rfl) (hq1 := rfl)]
    exact key _ ⟨t, rfl⟩
  · rw [outsAt0_B m c t h0]
    dsimp only
    rw [out_B (q := ix2 (⟨40 * ((y 1).val / 37) + (y 1).val % 37, by omega⟩ : Fin 1536) (y 2)) (hq0 := rfl) (hq1 := rfl)]
    exact key _ ⟨_, scratch_held m c ⟨t.val - 1, by omega⟩⟩

/-- Where the elements of point `t`'s output block sit in the result. -/
theorem out_place (t : Fin cfg0.N) (y : S1x1369x120.Idx) :
    (((win0_5.blk t).view.emb y : S8x1369x120.Idx) 0).val = t.val
      ∧ (((win0_5.blk t).view.emb y : S8x1369x120.Idx) 1).val = (y 1).val
      ∧ (((win0_5.blk t).view.emb y : S8x1369x120.Idx) 2).val = (y 2).val := by
  have h0 : (y 0).val < 1 := (y 0).isLt
  refine ⟨?_, ?_, ?_⟩
  · exact (win0_5.rect_emb_val t y 0).trans (by rw [index_out]; show t.val * 1 + (y 0).val = t.val; omega)
  · exact (win0_5.rect_emb_val t y 1).trans (by rw [index_out]; show 0 * 1369 + (y 1).val = (y 1).val; omega)
  · exact (win0_5.rect_emb_val t y 2).trans (by rw [index_out]; show 0 * 120 + (y 2).val = (y 2).val; omega)

/-- The result array after the grid is the network's value at every index. -/
theorem final (c : Dev nD) : (dats m 0 c).arrAt 5 cfg0.N = network m c := by
  refine (dats m 0 c).arrAt_eq_of_covers 5 _ (by decide +kernel) fun t hf y => ?_
  blk_simp
  rw [after0_5]
  obtain ⟨e0, e1, e2⟩ := out_place t y
  rw [point_out m c t y _ e0]
  unfold network
  rw [e1]
  exact congrArg _ (Fin.ext e2.symm)

/-- The result after the host's last line, a reshape of the array the grid leaves: the network's result. -/
theorem final_result (c : Dev nD) :
    Pipeline.afterTail₀ cfgs (dats m) 0 (V0 m) [hostOps1] c main_v10
      = Conv.result (image m c) (weights1 m c) (bias1 m c) (weights2 m c) (bias2 m c) := by
  have hA : Pipeline.withArrays (cfgs 0).spec c (V0 m c) (fun w => (dats m 0 c).arrAt w (cfgs 0).N) (Proc.devRef .tc main_v9)
      = network m c :=
    (Pipeline.withArrays_arr (cfgs 0).spec (by decide) c (V0 m c) _ 5).trans (final m c)
  unfold Pipeline.afterTail₀
  dsimp only [hostOps1, List.flatten_cons, List.flatten_nil, List.append_nil, List.cons_append, List.nil_append]
  after_results
  rw [hA]
  refine Conv.eq_result _ _ _ _ _ _ fun b r s a d => ?_
  pointwise
  rfl

end Cert.KernelIdeal.Blocks
-- ==== Proof.Ref.lean ====
/- The reference's result at an index: the network's value. -/
module

public import proofs.«01_k».proof.Proof.Gen.ReferenceIdeal.Read
public import proofs.«01_k».proof.Proof.Spec
public import Idealize.ShloMosaic.Lib.Pointwise

@[expose] public section

noncomputable section

namespace Cert.ReferenceIdeal.Network

open Cert.ReferenceIdeal Cert.ReferenceIdeal.Gen Cert.ReferenceIdeal.Read Idealize.ShloMosaic Idealize.ShloMosaic.TcCoe Idealize.SL.Sem
open scoped BigOperators

/-- The reference's bordered picture at an index. -/
theorem border_apply (X : Conv.Img) (b : Fin 8) (ch : Fin 1024) (r s : Fin 39) :
    val_main_v0 (F := Ideal) X (ix4 b ch r s) = Conv.padded X b ch r.val s.val := by
  unfold val_main_v0 val_main_call0_v0 val_main_c
  pointwise
  unfold Conv.padded
  by_cases h : (1 ≤ r.val ∧ r.val ≤ 37) ∧ (1 ≤ s.val ∧ s.val ≤ 37)
  · rw [dif_pos (by omega), dif_pos h]
  · rw [dif_neg (by omega), dif_neg h]
    exact (congrArg (fun z : ℝ => (z : EReal)) (by norm_num)).trans EReal.coe_zero

/-- The reference's hidden layer at an index. -/
theorem hidden_apply (X : Conv.Img) (W1 : Conv.Wt1) (B1 : Conv.Bias1) (b : Fin 8) (h s : Fin 37) (k : Fin 512) :
    val_main_v50 (F := Ideal) X W1 B1 (ix4 b h s k) = Conv.hidden X W1 B1 b k h.val s.val := by
  have e : ∀ (r' s' : Fin 39) (i j : Fin 3) (hr : r'.val = h.val + i.val) (hs : s'.val = s.val + j.val),
      (∑ c : Fin 1024, val_main_v0 (F := Ideal) X (ix4 b c r' s') * W1 (ix4 k c i j)) = Conv.tap X W1 b k h.val s.val i j := by
    intro r' s' i j hr hs
    refine Finset.sum_congr rfl fun c _ => ?_
    rw [border_apply, hr, hs, mul_comm]
  unfold val_main_v50 val_main_call1_v4 val_main_call1_v3 val_main_call1_v2 val_main_call1_v1 val_main_call1_v0
    val_main_cst_1 val_main_cst_0 val_main_v49 val_main_v48 val_main_v47
  unfold val_main_v46 val_main_v45 val_main_v44 val_main_v43 val_main_v42
    val_main_v41 val_main_v40 val_main_v39 val_main_v38 val_main_v37 val_main_v36 val_main_v35 val_main_v34 val_main_v33 val_main_v32
    val_main_v31 val_main_v30 val_main_v29 val_main_v28 val_main_v27 val_main_v26 val_main_v25 val_main_v24 val_main_v23 val_main_v22
    val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1
    val_main_cst
  generalize val_main_v0 (F := Ideal) X = Y at e ⊢
  pointwise
  have h0 : id (constant (F := Ideal) S_ FTy.f32 0#32) ix0 = 0 := by
    show Ideal.ofBits .f32 0#32 = 0
    simp
  rw [h0, Conv.hidden, Conv.conv_eq_nine]
  rw [← e ⟨h.val, by omega⟩ ⟨s.val, by omega⟩ 0 0 rfl rfl,
    ← e ⟨h.val, by omega⟩ ⟨1 + s.val, by omega⟩ 0 1 rfl (Nat.add_comm _ _),
    ← e ⟨h.val, by omega⟩ ⟨2 + s.val, by omega⟩ 0 2 rfl (Nat.add_comm _ _),
    ← e ⟨1 + h.val, by omega⟩ ⟨s.val, by omega⟩ 1 0 (Nat.add_comm _ _) rfl,
    ← e ⟨1 + h.val, by omega⟩ ⟨1 + s.val, by omega⟩ 1 1 (Nat.add_comm _ _) (Nat.add_comm _ _),
    ← e ⟨1 + h.val, by omega⟩ ⟨2 + s.val, by omega⟩ 1 2 (Nat.add_comm _ _) (Nat.add_comm _ _),
    ← e ⟨2 + h.val, by omega⟩ ⟨s.val, by omega⟩ 2 0 (Nat.add_comm _ _) rfl,
    ← e ⟨2 + h.val, by omega⟩ ⟨1 + s.val, by omega⟩ 2 1 (Nat.add_comm _ _) (Nat.add_comm _ _),
    ← e ⟨2 + h.val, by omega⟩ ⟨2 + s.val, by omega⟩ 2 2 (Nat.add_comm _ _) (Nat.add_comm _ _)]
  rfl

/-- The reference's result is the network's. -/
theorem result_eq (X : Conv.Img) (W1 : Conv.Wt1) (B1 : Conv.Bias1) (W2 : Conv.Wt2) (B2 : Conv.Bias2) :
    val_main_v56 (F := Ideal) X W1 B1 W2 B2 = Conv.result X W1 B1 W2 B2 := by
  refine Conv.eq_result _ X W1 B1 W2 B2 fun b r s a d => ?_
  have e1 : (r.val * 37 + s.val) / 37 = r.val := by omega
  have e2 : (r.val * 37 + s.val) % 37 = s.val := by omega
  unfold val_main_v56 val_main_v55 val_main_v54 val_main_v53 val_main_v52 val_main_v51
  pointwise
  simp only [hidden_apply]
  rw [Conv.head, e1, e2]

end Cert.ReferenceIdeal.Network
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Block
public import proofs.«01_k».proof.Proof.Ref
public import Idealize.ShloMosaic.Lib.Quiescent

@[expose] public section

noncomputable section

namespace Cert.Proof

open Idealize.ShloMosaic Idealize.SL.Sem Cert.KernelIdeal

/-- From memories that agree on the arguments, the reference's result is the network's over the kernel's arguments. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = HostIn.image m c)
    (h1 : m' ((c.tc : Thread Cert.ReferenceIdeal.nD Cert.ReferenceIdeal.τ).loc Cert.ReferenceIdeal.main_arg1) = HostIn.weights1 m c)
    (h2 : m' ((c.tc : Thread Cert.ReferenceIdeal.nD Cert.ReferenceIdeal.τ).loc Cert.ReferenceIdeal.main_arg2) = HostIn.bias1 m c)
    (h3 : m' ((c.tc : Thread Cert.ReferenceIdeal.nD Cert.ReferenceIdeal.τ).loc Cert.ReferenceIdeal.main_arg3) = HostIn.weights2 m c)
    (h4 : m' ((c.tc : Thread Cert.ReferenceIdeal.nD Cert.ReferenceIdeal.τ).loc Cert.ReferenceIdeal.main_arg4) = HostIn.bias2 m c) :
    Cert.ReferenceIdeal.Value.res_main_v56 m' c
      = Conv.result (HostIn.image m c) (HostIn.weights1 m c) (HostIn.bias1 m c) (HostIn.weights2 m c) (HostIn.bias2 m c) := by
  rw [Cert.ReferenceIdeal.Read.val_main_v56_eq, h0, h1, h2, h3, h4]
  exact Cert.ReferenceIdeal.Network.result_eq _ _ _ _ _

/-- The kernel runs to the end, its result is the network's over its arguments, and they are kept. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v10)
          = Conv.result (HostIn.image m c) (HostIn.weights1 m c) (HostIn.bias1 m c) (HostIn.weights2 m c) (HostIn.bias2 m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run _ _ _).mono
    (fun _ h c => ⟨((h.1 c).2 main_v10 (Pipeline.mem_restRefs_of main_v10 (by decide) (by decide))).trans
      (Blocks.final_result m c), h.2 c⟩)
    (θ_run_and (Gen.run_main m g) (Gen.unchanged m g))

/-- The certificate: both programs of the kernel and the reference run to the end with their arguments kept and
    every semaphore at zero, and over the extended reals kernel and reference end with the same array. -/
theorem claim : Cert.Claim := by
  refine ⟨Cert.Kernel.Gen.facts, Cert.KernelIdeal.Gen.facts, Cert.ReferenceIdeal.Gen.facts,
    fun m g _ => Cert.Kernel.Gen.frame m g, fun m g _ => Cert.KernelIdeal.Gen.frame m g, ?_, trivial, ?_⟩
  · intro m g _
    exact (θ_run _ _ _).mono (fun r h => ⟨fun c => (h c).2, sem_eq_zero_of_no_sems (by decide) _⟩)
      (Cert.ReferenceIdeal.Value.run m g)
  · intro m g m' g' _ hm
    refine ⟨fun c => Conv.result (HostIn.image m c) (HostIn.weights1 m c) (HostIn.bias1 m c) (HostIn.weights2 m c)
      (HostIn.bias2 m c), kernel_run m g, ?_⟩
    exact (θ_run _ _ _).mono
      (fun r h c => ⟨(h c).1.trans (reference_eq m m' c (hm c).1 (hm c).2.1 (hm c).2.2.1 (hm c).2.2.2.1 (hm c).2.2.2.2),
        (h c).2⟩)
      (Cert.ReferenceIdeal.Value.run m' g')

end Cert.Proof

end
